-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_d" .f32 0x39CCCCCD#32 ((1 / 2560 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v33_0) = v1 c
          ∧ r.2.mem ((c.tc : Thread Cert.ReferenceIdeal.nD Cert.ReferenceIdeal.τ).loc Cert.ReferenceIdeal.main_v33_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024x2560 : Shape := ⟨3, ![32, 1024, 2560]⟩
abbrev S2560 : Shape := ⟨1, ![2560]⟩
abbrev S32768x2560 : Shape := ⟨2, ![32768, 2560]⟩
abbrev S1x2560 : Shape := ⟨2, ![1, 2560]⟩
abbrev S32x1x1024 : Shape := ⟨3, ![32, 1, 1024]⟩
abbrev S512x2560 : Shape := ⟨2, ![512, 2560]⟩
abbrev S1x1x512 : Shape := ⟨3, ![1, 1, 512]⟩
abbrev S512x128 : Shape := ⟨2, ![512, 128]⟩
abbrev S32x2560 : Shape := ⟨2, ![32, 2560]⟩
abbrev S32 : Shape := ⟨1, ![32]⟩
abbrev S32x1 : Shape := ⟨2, ![32, 1]⟩
abbrev S32x128 : Shape := ⟨2, ![32, 128]⟩
abbrev S128x128 : Shape := ⟨2, ![128, 128]⟩
abbrev S1x128 : Shape := ⟨2, ![1, 128]⟩
abbrev S1x1x128 : Shape := ⟨3, ![1, 1, 128]⟩
abbrev S32x1024x1 : Shape := ⟨3, ![32, 1024, 1]⟩

abbrev nBuf : Space → Nat
  | .hbm => 12
  | .vmem => 12
  | .smem => 0
  | _ => 0

abbrev bufTy : (tb : Table) → Fin (tcTables nBuf tb) → BufTy
  | .hbm, ⟨0, _⟩ => ⟨S32x1024x2560, .bf16⟩
  | .hbm, ⟨1, _⟩ => ⟨S32x1024x2560, .bf16⟩
  | .hbm, ⟨2, _⟩ => ⟨S2560, .bf16⟩
  | .hbm, ⟨3, _⟩ => ⟨S32768x2560, .bf16⟩
  | .hbm, ⟨4, _⟩ => ⟨S32768x2560, .bf16⟩
  | .hbm, ⟨5, _⟩ => ⟨S1x2560, .bf16⟩
  | .hbm, ⟨6, _⟩ => ⟨S32768x2560, .bf16⟩
  | .hbm, ⟨7, _⟩ => ⟨S32768x2560, .i8⟩
  | .hbm, ⟨8, _⟩ => ⟨S32x1x1024, .f32⟩
  | .hbm, ⟨9, _⟩ => ⟨S32x1024x2560, .bf16⟩
  | .hbm, ⟨10, _⟩ => ⟨S32x1024x2560, .i8⟩
  | .hbm, ⟨11, _⟩ => ⟨S32x1024x1, .f32⟩
  | .local _ .vmem, ⟨0, _⟩ => ⟨S512x2560, .bf16⟩
  | .local _ .vmem, ⟨1, _⟩ => ⟨S512x2560, .bf16⟩
  | .local _ .vmem, ⟨2, _⟩ => ⟨S512x2560, .bf16⟩
  | .local _ .vmem, ⟨3, _⟩ => ⟨S512x2560, .bf16⟩
  | .local _ .vmem, ⟨4, _⟩ => ⟨S1x2560, .bf16⟩
  | .local _ .vmem, ⟨5, _⟩ => ⟨S512x2560, .bf16⟩
  | .local _ .vmem, ⟨6, _⟩ => ⟨S512x2560, .bf16⟩
  | .local _ .vmem, ⟨7, _⟩ => ⟨S512x2560, .i8⟩
  | .local _ .vmem, ⟨8, _⟩ => ⟨S512x2560, .i8⟩
  | .local _ .vmem, ⟨9, _⟩ => ⟨S1x1x512, .f32⟩
  | .local _ .vmem, ⟨10, _⟩ => ⟨S1x1x512, .f32⟩
  | .local _ .vmem, ⟨11, _⟩ => ⟨S512x128, .f32⟩
  | _, _ => ⟨S32x1024x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c32_i32 : BitVec 32 := 32#32
  let v28 : BitVec 32 := Scalar.muli arg8 c32_i32
  v28
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v28 : BitVec 32 := Scalar.muli arg8 c32_i32
  let v29 : BitVec 32 := v28
  let v30 : Index := Scalar.indexCast v29
  let c0_19 : Index := 0#32
  ![v30.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v28 : BitVec 32 := Scalar.muli arg8 c32_i32
  let v29 : BitVec 32 := v28
  let v78 : Index := Scalar.indexCast v29
  let c0_32 : Index := 0#32
  ![v78.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2560 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "inv_d" => some ((1 / 2560 : ℝ) : EReal)
  | _ => none
-- ==== ReferenceIdeal.lean ====
abbrev S32x1024x2560 : Shape := ⟨3, ![32, 1024, 2560]⟩
abbrev S2560 : Shape := ⟨1, ![2560]⟩
abbrev S_ : Shape := ⟨0, ![]⟩
abbrev S32x1024 : Shape := ⟨2, ![32, 1024]⟩
abbrev S32x1024x1 : Shape := ⟨3, ![32, 1024, 1]⟩
abbrev S1x1x2560 : Shape := ⟨3, ![1, 1, 2560]⟩

abbrev nBuf : Space → Nat
  | .hbm => 54
  | .vmem => 0
  | .smem => 0
  | _ => 0

abbrev bufTy : (tb : Table) → Fin (tcTables nBuf tb) → BufTy
  | .hbm, ⟨0, _⟩ => ⟨S32x1024x2560, .bf16⟩
  | .hbm, ⟨1, _⟩ => ⟨S32x1024x2560, .bf16⟩
  | .hbm, ⟨2, _⟩ => ⟨S2560, .bf16⟩
  | .hbm, ⟨3, _⟩ => ⟨S32x1024x2560, .f32⟩
  | .hbm, ⟨4, _⟩ => ⟨S32x1024x2560, .f32⟩
  | .hbm, ⟨5, _⟩ => ⟨S32x1024x2560, .f32⟩
  | .hbm, ⟨6, _⟩ => ⟨S32x1024x2560, .bf16⟩
  | .hbm, ⟨7, _⟩ => ⟨S32x1024x2560, .f32⟩
  | .hbm, ⟨8, _⟩ => ⟨S32x1024x2560, .f32⟩
  | .hbm, ⟨9, _⟩ => ⟨S_, .f32⟩
  | .hbm, ⟨10, _⟩ => ⟨S32x1024, .f32⟩
  | .hbm, ⟨11, _⟩ => ⟨S32x1024x1, .f32⟩
  | .hbm, ⟨12, _⟩ => ⟨S_, .f32⟩
  | .hbm, ⟨13, _⟩ => ⟨S32x1024x1, .f32⟩
  | .hbm, ⟨14, _⟩ => ⟨S32x1024x1, .f32⟩
  | .hbm, ⟨15, _⟩ => ⟨S_, .f32⟩
  | .hbm, ⟨16, _⟩ => ⟨S32x1024x1, .f32⟩
  | .hbm, ⟨17, _⟩ => ⟨S32x1024x1, .f32⟩
  | .hbm, ⟨18, _⟩ => ⟨S32x1024x1, .f32⟩
  | .hbm, ⟨19, _⟩ => ⟨S32x1024x2560, .f32⟩
  | .hbm, ⟨20, _⟩ => ⟨S32x1024x2560, .f32⟩
  | .hbm, ⟨21, _⟩ => ⟨S2560, .f32⟩
  | .hbm, ⟨22, _⟩ => ⟨S1x1x2560, .f32⟩
  | .hbm, ⟨23, _⟩ => ⟨S32x1024x2560, .f32⟩
  | .hbm, ⟨24, _⟩ => ⟨S32x1024x2560, .f32⟩
  | .hbm, ⟨25, _⟩ => ⟨S32x1024x2560, .f32⟩
  | .hbm, ⟨26, _⟩ => ⟨S_, .f32⟩
  | .hbm, ⟨27, _⟩ => ⟨S32x1024, .f32⟩
  | .hbm, ⟨28, _⟩ => ⟨S32x1024x1, .f32⟩
  | .hbm, ⟨29, _⟩ => ⟨S_, .f32⟩
  | .hbm, ⟨30, _⟩ => ⟨S32x1024x1, .f32⟩
  | .hbm, ⟨31, _⟩ => ⟨S32x1024x1, .i1⟩
  | .hbm, ⟨32, _⟩ => ⟨S_, .f32⟩
  | .hbm, ⟨33, _⟩ => ⟨S32x1024x1, .f32⟩
  | .hbm, ⟨34, _⟩ => ⟨S32x1024x1, .f32⟩
  | .hbm, ⟨35, _⟩ => ⟨S_, .f32⟩
  | .hbm, ⟨36, _⟩ => ⟨S_, .f32⟩
  | .hbm, ⟨37, _⟩ => ⟨S32x1024x1, .f32⟩
  | .hbm, ⟨38, _⟩ => ⟨S32x1024x1, .f32⟩
  | .hbm, ⟨39, _⟩ => ⟨S32x1024x2560, .f32⟩
  | .hbm, ⟨40, _⟩ => ⟨S32x1024x2560, .f32⟩
  | .hbm, ⟨41, _⟩ => ⟨S32x1024x2560, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S32x1024x2560, .f32⟩
  | .hbm, ⟨46, _⟩ => ⟨S32x1024x2560, .f32⟩
  | .hbm, ⟨47, _⟩ => ⟨S_, .f32⟩
  | .hbm, ⟨48, _⟩ => ⟨S32x1024x2560, .f32⟩
  | .hbm, ⟨49, _⟩ => ⟨S32x1024x2560, .f32⟩
  | .hbm, ⟨50, _⟩ => ⟨S32x1024x2560, .i32⟩
  | .hbm, ⟨51, _⟩ => ⟨S32x1024x2560, .i8⟩
  | .hbm, ⟨52, _⟩ => ⟨S32x1024x2560, .i8⟩
  | .hbm, ⟨53, _⟩ => ⟨S32x1024x1, .f32⟩
  | _, _ => ⟨S32x1024x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_cst_7 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33_0 : Ref sig .tc := ⟨.hbm, 52, rfl⟩
abbrev main_v33_1 : Ref sig .tc := ⟨.hbm, 53, rfl⟩

abbrev nD : Nat := 1
abbrev τ : Topo := Topo.v7x

variable {F : FTy → Type} [FloatOps F]
-- ==== Proof.Pieces.lean ====
/- What the kernel's body writes at one grid point, as lists of pieces (a rectangle and its values): the pieces of one trip
   of the loop, and the body's lists for the three outputs. -/
module

public import proofs.«01_k».proof.Proof.Gen.KernelIdeal.Frame
public import Idealize.ShloMosaic.Lib.Pipeline.Value

@[expose] public section

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F] [Named F]

variable (𝒱 : Variants) (c : Dev nD) (bd : Option 𝒱.V) (i : grid0.Coords)
  (arg1 : Memref sig .tc .vmem S512x2560 .bf16) (harg1 : arg1.IsWhole)
  (arg2 : Memref sig .tc .vmem S512x2560 .bf16) (harg2 : arg2.IsWhole)
  (arg3 : Memref sig .tc .vmem S1x2560 .bf16) (harg3 : arg3.IsWhole)
  (arg4 : Memref sig .tc .vmem S512x2560 .bf16) (harg4 : arg4.IsWhole)
  (arg5 : Memref sig .tc .vmem S512x2560 .i8) (harg5 : arg5.IsWhole)
  (arg6 : Memref sig .tc .vmem S1x1x512 .f32) (harg6 : arg6.IsWhole)
  (arg7 : Memref sig .tc .vmem S512x128 .f32) (harg7 : arg7.IsWhole)

section Trip
variable (v0 : Vec F S1x2560 .bf16) (X1 : BufTy.Contents (Elt F) arg1.view.ty) (X2 : BufTy.Contents (Elt F) arg2.view.ty)
  (k : Fin k0_t1_loop.trips)

/-- Rows `32 k … 32 k + 31`, all columns, of a 512-row buffer. -/
abbrev rowsRect : Rect S512x2560 := Rect.unit (s := S512x2560) (k0_off1 k) S32x2560.size (k0_off1_inb k)

/-- What trip `k` loads of the first input's buffer: its 32 rows. -/
abbrev ld1 : Vec F S32x2560 .bf16 := arg1.view.readAt (Elt F) (rowsRect k).toLoadRect X1
/-- What trip `k` loads of the second input's buffer. -/
abbrev ld2 : Vec F S32x2560 .bf16 := arg2.view.readAt (Elt F) (rowsRect k).toLoadRect X2

/-- Trip `k` writes one piece of each of three buffers: its rows of new residuals, its rows of codes, and its rows of the
    scratch, which holds each row's scale in every lane. -/
theorem trip_pieces :
    tripL_k0_t1 (F := F) 𝒱 c bd i arg1 harg1 arg2 harg2 arg3 harg3 arg4 harg4 arg5 harg5 arg6 harg6 arg7 harg7 v0 X1 X2 k
      = ([⟨rowsRect k, k0_pay1 (ld1 arg1 X1 k) (ld2 arg2 X2 k)⟩],
         [⟨rowsRect k, k0_pay7 (k0_pay4 (k0_pay6 v0) (ld1 arg1 X1 k) (ld2 arg2 X2 k)) k0_pay5⟩],
         [⟨Rect.unit (s := S512x128) (k0_off2 k) S32x128.size (k0_off2_inb k),
           k0_pay8 (k0_pay3 (k0_pay6 v0) (ld1 arg1 X1 k) (ld2 arg2 X2 k))⟩]) := by
  unfold tripL_k0_t1 trip_k0_t1
  rfl

end Trip

section Run
variable (x0 : Vec F S512x2560 .bf16) (x1 : Vec F S512x2560 .bf16) (x2 : Vec F S1x2560 .bf16)

/-- The loop's pieces as the body meets them. -/
abbrev loopPieces :=
  pb_k0_t1 (F := F) Variants.none c none i arg1 harg1 arg2 harg2 arg3 harg3 arg4 harg4 arg5 harg5 arg6 harg6 arg7 harg7
    (arg3.view.readAt (Elt F) (Rect.unit (s := S1x2560) ![0, 0] S1x2560.size inb_S1x2560_S1x2560_0_0).toLoadRect (harg3.unread x2))
    (harg1.unread x0) (harg2.unread x1) (Scf.trips k0_t1_loop.lb k0_t1_loop.ub k0_t1_loop.st)

/-- The body's pieces of the new residuals are the loop's. -/
theorem run_L3 :
    (kernelRun0_A (F := F) c i arg1 harg1 arg2 harg2 arg3 harg3 arg4 harg4 arg5 harg5 arg6 harg6 arg7 harg7 x0 x1 x2).1
      = (loopPieces c i arg1 harg1 arg2 harg2 arg3 harg3 arg4 harg4 arg5 harg5 arg6 harg6 arg7 harg7 x0 x1 x2).1 := rfl

/-- The body's pieces of the codes are the loop's. -/
theorem run_L4 :
    (kernelRun0_A (F := F) c i arg1 harg1 arg2 harg2 arg3 harg3 arg4 harg4 arg5 harg5 arg6 harg6 arg7 harg7 x0 x1 x2).2.1
      = (loopPieces c i arg1 harg1 arg2 harg2 arg3 harg3 arg4 harg4 arg5 harg5 arg6 harg6 arg7 harg7 x0 x1 x2).2.1 := rfl

/-- 128 rows from `o`, of the scratch as the loop left it. -/
abbrev scr (o : ℕ) (inb : ∀ d, ![o, 0] d + S128x128.size d ≤ S512x128.size d) : Vec F S128x128 .f32 :=
  arg7.view.readCov (loopPieces c i arg1 harg1 arg2 harg2 arg3 harg3 arg4 harg4 arg5 harg5 arg6 harg6 arg7 harg7 x0 x1 x2).2.2
    (Rect.unit (s := S512x128) ![o, 0] S128x128.size inb).toLoadRect

/-- The body's pieces of the scales: four stores of 128, each from 128 rows of the scratch, the last store first. -/
theorem run_L5 :
    (kernelRun0_A (F := F) c i arg1 harg1 arg2 harg2 arg3 harg3 arg4 harg4 arg5 harg5 arg6 harg6 arg7 harg7 x0 x1 x2).2.2.1
      = [⟨Rect.unit (s := S1x1x512) ![0, 0, 384] S1x1x128.size inb_S1x1x512_S1x1x128_0_0_384, k0_pay12 (scr c i arg1 harg1 arg2 harg2 arg3 harg3 arg4 harg4 arg5 harg5 arg6 harg6 arg7 harg7 x0 x1 x2 384 inb_S512x128_S128x128_384_0)⟩,
         ⟨Rect.unit (s := S1x1x512) ![0, 0, 256] S1x1x128.size inb_S1x1x512_S1x1x128_0_0_256, k0_pay11 (scr c i arg1 harg1 arg2 harg2 arg3 harg3 arg4 harg4 arg5 harg5 arg6 harg6 arg7 harg7 x0 x1 x2 256 inb_S512x128_S128x128_256_0)⟩,
         ⟨Rect.unit (s := S1x1x512) ![0, 0, 128] S1x1x128.size inb_S1x1x512_S1x1x128_0_0_128, k0_pay10 (scr c i arg1 harg1 arg2 harg2 arg3 harg3 arg4 harg4 arg5 harg5 arg6 harg6 arg7 harg7 x0 x1 x2 128 inb_S512x128_S128x128_128_0)⟩,
         ⟨Rect.unit (s := S1x1x512) ![0, 0, 0] S1x1x128.size inb_S1x1x512_S1x1x128_0_0_0, k0_pay9 (scr c i arg1 harg1 arg2 harg2 arg3 harg3 arg4 harg4 arg5 harg5 arg6 harg6 arg7 harg7 x0 x1 x2 0 inb_S512x128_S128x128_0_0)⟩] := rfl

end Run

end Cert.KernelIdeal.Hand
-- ==== Proof.RowMath.lean ====
/- One row's mathematics over the extended reals, and the scalar equations that the kernel and the reference meet at:
   a row's normalised values, its largest magnitude, its scale and its codes, and why dividing by 2560 is multiplying
   by 1/2560, dividing by the scale is multiplying by its reciprocal, and narrowing a clipped value through 32 bits is
   narrowing it at once. -/
module

public import Idealize.ShloMosaic.Lib.Pointwise

@[expose] public section

noncomputable section

namespace Cert.RowMath

open Idealize.ShloMosaic

/-- A row `n` scaled to unit mean square (with the program's small constant under the root) and by the gains `g`. -/
def normed (n g : Fin 2560 → EReal) (j : Fin 2560) : EReal :=
  n j * Ideal.rsqrt ((∑ k, n k * n k) * ((1 / 2560 : ℝ) : EReal) + Ideal.ofBits .f32 0x358637BD#32) * g j

/-- The largest magnitude of a row, from the −∞ both programs start at. -/
def peak (y : Fin 2560 → EReal) : EReal :=
  Finset.univ.fold max (Ideal.ofBits .f32 0xFF800000#32) fun k => FloatOps.absf (F := Ideal) (φ := .f32) (y k)

/-- The scale of a row: its largest magnitude over 127, or one where the row is zero. -/
def scale (y : Fin 2560 → EReal) : EReal :=
  if 0 < peak y then Ideal.div (peak y) (Ideal.ofBits .f32 0x42FE0000#32) else 1

/-- A value rounded to the nearest integer, ties to even, and clipped to ±127. -/
def clipped (v : EReal) : EReal :=
  min (Ideal.ofBits .f32 0x42FE0000#32) (max (Ideal.ofBits .f32 0xC2FE0000#32) (Ideal.liftRound Ideal.roundHalfEven v))

/-- The code of a row at one column: the value over the row's scale, rounded, clipped, as eight bits. -/
def code (y : Fin 2560 → EReal) (j : Fin 2560) : BitVec 8 :=
  Ideal.fptosi 8 (clipped (Ideal.div (y j) (scale y)))

/-- The word `0x42FE0000` denotes 127. -/
theorem ofBits_127 : Ideal.ofBits .f32 0x42FE0000#32 = ((127 : ℝ) : EReal) := by
  simp [Ideal.ofBits, Ideal.ieee, -EReal.coe_mul]; norm_num

/-- The word `0xC2FE0000` denotes −127. -/
theorem ofBits_neg127 : Ideal.ofBits .f32 0xC2FE0000#32 = ((-127 : ℝ) : EReal) := by
  simp [Ideal.ofBits, Ideal.ieee, -EReal.coe_mul]; norm_num

/-- The word `0x45200000` denotes 2560. -/
theorem ofBits_2560 : Ideal.ofBits .f32 0x45200000#32 = ((2560 : ℝ) : EReal) := by
  simp [Ideal.ofBits, Ideal.ieee, -EReal.coe_mul]; norm_num

/-- Dividing by 2560 is multiplying by 1/2560, at every extended real. -/
theorem div_2560 (s : EReal) : Ideal.div s (Ideal.ofBits .f32 0x45200000#32) = s * ((1 / 2560 : ℝ) : EReal) := by
  rw [ofBits_2560, Ideal.div, if_neg (by exact_mod_cast (by norm_num : (2560 : ℝ) ≠ 0)), ← EReal.coe_inv, one_div]

/-- Multiplying by a nonzero value's reciprocal is dividing by it. -/
theorem mul_div_one (y s : EReal) (hs : s ≠ 0) : y * Ideal.div 1 s = Ideal.div y s := by
  rw [Ideal.div, Ideal.div, if_neg hs, if_neg hs, one_mul]

/-- A row's scale is never zero. -/
theorem scale_ne_zero (y : Fin 2560 → EReal) : scale y ≠ 0 := by
  unfold scale
  split
  · next h =>
    rw [ofBits_127, Ideal.div, if_neg (by exact_mod_cast (by norm_num : (127 : ℝ) ≠ 0)), ← EReal.coe_inv]
    exact (EReal.mul_pos h (by exact_mod_cast (by norm_num : (0 : ℝ) < 127⁻¹))).ne'
  · exact one_ne_zero

/-- A clipped value is a real between −127 and 127. -/
theorem clipped_real (v : EReal) : ∃ r : ℝ, clipped v = (r : EReal) ∧ -127 ≤ r ∧ r ≤ 127 := by
  have h1 : clipped v ≤ ((127 : ℝ) : EReal) := by unfold clipped; rw [ofBits_127]; exact min_le_left _ _
  have h2 : ((-127 : ℝ) : EReal) ≤ clipped v := by
    unfold clipped; rw [ofBits_127, ofBits_neg127]
    exact le_min (by exact_mod_cast (by norm_num : (-127 : ℝ) ≤ 127)) (le_max_left _ _)
  generalize clipped v = w at h1 h2
  induction w with
  | bot => exact absurd h2 (by simp)
  | top => exact absurd h1 (by simp)
  | coe r => exact ⟨r, rfl, by exact_mod_cast h2, by exact_mod_cast h1⟩

/-- Truncating a clipped value to 32 bits and keeping the low eight is truncating it to eight bits. -/
theorem setWidth_fptosi (v : EReal) : BitVec.setWidth 8 (Ideal.fptosi 32 (clipped v)) = Ideal.fptosi 8 (clipped v) := by
  obtain ⟨r, hr, hlo, hhi⟩ := clipped_real v
  rw [hr, Ideal.fptosi, Ideal.fptosi, Ideal.toIntClamped_coe, Ideal.toIntClamped_coe]
  have hz : -127 ≤ (if 0 ≤ r then ⌊r⌋ else ⌈r⌉) ∧ (if 0 ≤ r then ⌊r⌋ else ⌈r⌉) ≤ 127 := by
    split
    · exact ⟨Int.le_floor.mpr (by push_cast; exact hlo), by
        have := Int.floor_le r; exact_mod_cast this.trans hhi⟩
    · exact ⟨by have := Int.le_ceil r; exact_mod_cast hlo.trans this, Int.ceil_le.mpr (by push_cast; exact hhi)⟩
  generalize (if 0 ≤ r then ⌊r⌋ else ⌈r⌉) = z at hz
  rw [show max (-((2 ^ (32 - 1) : ℕ) : ℤ)) (min (((2 ^ (32 - 1) : ℕ) : ℤ) - 1) z) = z by norm_num; omega,
    show max (-((2 ^ (8 - 1) : ℕ) : ℤ)) (min (((2 ^ (8 - 1) : ℕ) : ℤ) - 1) z) = z by norm_num; omega]
  apply BitVec.eq_of_toNat_eq
  rw [BitVec.toNat_setWidth, BitVec.toNat_ofInt, BitVec.toNat_ofInt]
  norm_num
  omega

end Cert.RowMath
-- ==== Proof.KernelRow.lean ====
/- What one trip of the kernel's loop stores, read at an index: the payloads of the 32 rows a trip takes, each as the
   row's mathematics (RowMath). -/
module

public import proofs.«01_k».proof.Proof.Gen.KernelIdeal.Skeleton
public import proofs.«01_k».proof.Proof.RowMath

@[expose] public section

set_option maxRecDepth 16384

noncomputable section

namespace Cert.KernelIdeal.Hand

open Idealize.ShloMosaic Idealize.ShloMosaic.TcCoe Idealize.SL.Sem
open Cert.KernelIdeal Cert.KernelIdeal.Gen Cert.RowMath

variable (g : FVec Ideal S1x2560 .bf16) (x r : FVec Ideal S32x2560 .bf16) (i : Fin 32) (j : Fin 2560)

/-- The table gives the named constant its value, 1/2560. -/
theorem named_inv_d : Named.named (F := Ideal) κ "inv_d" (φ := .f32) 0x39CCCCCD#32 = ((1 / 2560 : ℝ) : EReal) :=
  IdealRules.named_const.ideal_named_scalar _ _ _ _ rfl

/-- The new residual: the sum of the two inputs. -/
theorem pay1_apply : k0_pay1 (F := Ideal) x r (ix2 i j) = x (ix2 i j) + r (ix2 i j) := by
  pointwise [k0_pay1]

/-- The normalised rows: `normed` of the row of sums and the gains. -/
theorem pay2_apply : k0_pay2 (F := Ideal) (k0_pay6 g) x r (ix2 i j)
    = normed (fun k => x (ix2 i k) + r (ix2 i k)) (fun k => g (ix2 0 k)) j := by
  pointwise [k0_pay2, k0_pay1, k0_pay6]
  unfold normed
  erw [named_inv_d]

/-- The row scales: `scale` of the normalised row. -/
theorem pay3_apply : k0_pay3 (F := Ideal) (k0_pay6 g) x r (ix2 i 0)
    = scale (normed (fun k => x (ix2 i k) + r (ix2 i k)) (fun k => g (ix2 0 k))) := by
  pointwise [k0_pay3]
  simp only [pay2_apply]
  rfl

/-- The codes: `code` of the normalised row. -/
theorem pay7_apply : k0_pay7 (F := Ideal) (k0_pay4 (k0_pay6 g) x r) k0_pay5 (ix2 i j)
    = code (normed (fun k => x (ix2 i k) + r (ix2 i k)) (fun k => g (ix2 0 k))) j := by
  pointwise [k0_pay7, k0_pay4, k0_pay5]
  rw [pay2_apply, pay3_apply, mul_div_one _ _ (scale_ne_zero _)]
  rfl

/-- The scratch rows: a row's scale in all 128 columns. -/
theorem pay8_apply (s : FVec Ideal S32x1 .f32) (l : Fin 128) : k0_pay8 s (ix2 i l) = s (ix2 i 0) := by
  pointwise [k0_pay8]

/-- A store of the scales: column 0 of 128 scratch rows, laid along the last axis. -/
theorem pay9_apply (s : FVec Ideal S128x128 .f32) (l : Fin 128) : k0_pay9 (F := Ideal) s (ix3 0 0 l) = s (ix2 l 0) := by
  pointwise [k0_pay9]

/-- The same of the second 128 rows. -/
theorem pay10_apply (s : FVec Ideal S128x128 .f32) (l : Fin 128) : k0_pay10 (F := Ideal) s (ix3 0 0 l) = s (ix2 l 0) := by
  pointwise [k0_pay10]

/-- The same of the third 128 rows. -/
theorem pay11_apply (s : FVec Ideal S128x128 .f32) (l : Fin 128) : k0_pay11 (F := Ideal) s (ix3 0 0 l) = s (ix2 l 0) := by
  pointwise [k0_pay11]

/-- The same of the last 128 rows. -/
theorem pay12_apply (s : FVec Ideal S128x128 .f32) (l : Fin 128) : k0_pay12 (F := Ideal) s (ix3 0 0 l) = s (ix2 l 0) := by
  pointwise [k0_pay12]

end Cert.KernelIdeal.Hand
-- ==== Proof.Block.lean ====
/- What one grid point leaves in its three output blocks, as functions of its three input blocks: the loop's pieces agree
   with these functions (each trip's 32 rows), and the pieces cover the blocks. -/
module

public import proofs.«01_k».proof.Proof.Pieces
public import proofs.«01_k».proof.Proof.KernelRow

@[expose] public section

set_option maxRecDepth 16384

noncomputable section

namespace Cert.KernelIdeal.Hand

open Idealize.ShloMosaic Idealize.ShloMosaic.TcCoe Idealize.SL.Sem
open Cert.KernelIdeal Cert.KernelIdeal.Gen Cert.RowMath

section Functions
variable (x0 x1 : Vec Ideal S512x2560 .bf16) (x2 : Vec Ideal S1x2560 .bf16)

/-- Row `i` of a point's blocks, normalised: the row of sums against the gains. -/
def rowOf (i : Fin 512) : Fin 2560 → EReal :=
  normed (fun k => x0 (ix2 i k) + x1 (ix2 i k)) (fun k => x2 (ix2 0 k))

/-- The block of new residuals. -/
def G3 : Vec Ideal S512x2560 .bf16 := fun y => (x0 y + x1 y : EReal)

/-- The block of codes. -/
def G4 : Vec Ideal S512x2560 .i8 := fun y => code (rowOf x0 x1 x2 (y 0)) (y 1)

/-- The scratch: row `i`'s scale in every lane. -/
def G7 : Vec Ideal S512x128 .f32 := fun y => scale (rowOf x0 x1 x2 (y 0))

/-- The block of scales. -/
def G5 : Vec Ideal S1x1x512 .f32 := fun y => scale (rowOf x0 x1 x2 (y 2))

end Functions

/-- Trip `k` starts at row `32 k`. -/
theorem off1_eq : ∀ k : Fin k0_t1_loop.trips, k0_off1 k 0 = 32 * k.val ∧ k0_off1 k 1 = 0 := by decide +kernel

/-- Its scratch rows start there too. -/
theorem off2_eq : ∀ k : Fin k0_t1_loop.trips, k0_off2 k 0 = 32 * k.val ∧ k0_off2 k 1 = 0 := by decide +kernel

/-- The loop makes 16 trips. -/
theorem trips_eq : k0_t1_loop.trips = 16 := by decide +kernel

/-- Row `i` of trip `k` is row `32 k + i` of the block. -/
def tripRow (k : Fin k0_t1_loop.trips) (i : Fin 32) : Fin 512 :=
  ⟨32 * k.val + i.val, by have := lt_of_lt_of_eq k.isLt trips_eq; omega⟩

/-- The element a trip's rectangle has at (i, j). -/
theorem rowsRect_idx (k : Fin k0_t1_loop.trips) (i : Fin 32) (j : Fin 2560) :
    (rowsRect k).emb (ix2 i j) = (ix2 (tripRow k i) j : S512x2560.Idx) := by
  obtain ⟨h0, h1⟩ := off1_eq k
  funext a
  apply Fin.ext
  fin_cases a
  · show k0_off1 k 0 + 1 * i.val = 32 * k.val + i.val
    omega
  · show k0_off1 k 1 + 1 * j.val = j.val
    omega

/-- The element a trip's scratch rectangle has at (i, l). -/
theorem scrRect_idx (k : Fin k0_t1_loop.trips) (i : Fin 32) (l : Fin 128) :
    (Rect.unit (s := S512x128) (k0_off2 k) S32x128.size (k0_off2_inb k)).emb (ix2 i l) = (ix2 (tripRow k i) l : S512x128.Idx) := by
  obtain ⟨h0, h1⟩ := off2_eq k
  funext a
  apply Fin.ext
  fin_cases a
  · show k0_off2 k 0 + 1 * i.val = 32 * k.val + i.val
    omega
  · show k0_off2 k 1 + 1 * l.val = l.val
    omega

variable (c : Dev nD) (i : grid0.Coords)
  (arg1 : Memref sig .tc .vmem S512x2560 .bf16) (harg1 : arg1.IsWhole)
  (arg2 : Memref sig .tc .vmem S512x2560 .bf16) (harg2 : arg2.IsWhole)
  (arg3 : Memref sig .tc .vmem S1x2560 .bf16) (harg3 : arg3.IsWhole)
  (arg4 : Memref sig .tc .vmem S512x2560 .bf16) (harg4 : arg4.IsWhole)
  (arg5 : Memref sig .tc .vmem S512x2560 .i8) (harg5 : arg5.IsWhole)
  (arg6 : Memref sig .tc .vmem S1x1x512 .f32) (harg6 : arg6.IsWhole)
  (arg7 : Memref sig .tc .vmem S512x128 .f32) (harg7 : arg7.IsWhole)

section Members
variable (𝒱 : Variants) (bd : Option 𝒱.V)
  (v0 : Vec Ideal S1x2560 .bf16) (X1 : BufTy.Contents (Elt Ideal) arg1.view.ty) (X2 : BufTy.Contents (Elt Ideal) arg2.view.ty)

/-- A property of every trip's pieces is one of the loop's pieces. -/
theorem pieces_of_trips
    (P3 : View.Piece (Elt Ideal) S512x2560 .bf16 → Prop) (P4 : View.Piece (Elt Ideal) S512x2560 .i8 → Prop)
    (P7 : View.Piece (Elt Ideal) S512x128 .f32 → Prop)
    (h : ∀ k : Fin k0_t1_loop.trips,
      P3 ⟨rowsRect k, k0_pay1 (ld1 arg1 X1 k) (ld2 arg2 X2 k)⟩
      ∧ P4 ⟨rowsRect k, k0_pay7 (k0_pay4 (k0_pay6 v0) (ld1 arg1 X1 k) (ld2 arg2 X2 k)) k0_pay5⟩
      ∧ P7 ⟨Rect.unit (s := S512x128) (k0_off2 k) S32x128.size (k0_off2_inb k),
           k0_pay8 (k0_pay3 (k0_pay6 v0) (ld1 arg1 X1 k) (ld2 arg2 X2 k))⟩)
    (n : ℕ) (hn : n ≤ k0_t1_loop.trips) :
    (∀ p ∈ (pb_k0_t1 (F := Ideal) 𝒱 c bd i arg1 harg1 arg2 harg2 arg3 harg3 arg4 harg4 arg5 harg5 arg6 harg6 arg7 harg7 v0 X1 X2 n).1, P3 p)
    ∧ (∀ p ∈ (pb_k0_t1 (F := Ideal) 𝒱 c bd i arg1 harg1 arg2 harg2 arg3 harg3 arg4 harg4 arg5 harg5 arg6 harg6 arg7 harg7 v0 X1 X2 n).2.1, P4 p)
    ∧ (∀ p ∈ (pb_k0_t1 (F := Ideal) 𝒱 c bd i arg1 harg1 arg2 harg2 arg3 harg3 arg4 harg4 arg5 harg5 arg6 harg6 arg7 harg7 v0 X1 X2 n).2.2, P7 p) := by
  induction n with
  | zero => exact ⟨fun p hp => absurd hp (List.not_mem_nil), fun p hp => absurd hp (List.not_mem_nil), fun p hp => absurd hp (List.not_mem_nil)⟩
  | succ n ih =>
    obtain ⟨i3, i4, i7⟩ := ih (Nat.le_of_succ_le hn)
    obtain ⟨h3, h4, h7⟩ := h ⟨n, hn⟩
    have e := pb_k0_t1_succ (F := Ideal) 𝒱 c bd i arg1 harg1 arg2 harg2 arg3 harg3 arg4 harg4 arg5 harg5 arg6 harg6 arg7 harg7 v0 X1 X2 ⟨n, hn⟩
    rw [trip_pieces] at e
    simp only at e
    rw [e]
    refine ⟨fun p hp => ?_, fun p hp => ?_, fun p hp => ?_⟩
    · rcases List.mem_append.mp hp with hp | hp
      · rw [List.mem_singleton.mp hp]; exact h3
      · exact i3 p hp
    · rcases List.mem_append.mp hp with hp | hp
      · rw [List.mem_singleton.mp hp]; exact h4
      · exact i4 p hp
    · rcases List.mem_append.mp hp with hp | hp
      · rw [List.mem_singleton.mp hp]; exact h7
      · exact i7 p hp

end Members

section Run
variable (x0 x1 : Vec Ideal S512x2560 .bf16) (x2 : Vec Ideal S1x2560 .bf16)

/-- A trip's load of the first input: its rows of the block. -/
theorem ld1_apply (k : Fin k0_t1_loop.trips) (a : Fin 32) (j : Fin 2560) :
    ld1 arg1 (harg1.unread x0) k (ix2 a j) = x0 (ix2 (tripRow k a) j) := by
  show arg1.view.read (Elt Ideal) (harg1.unread x0) ((rowsRect k).emb (ix2 a j)) = _
  rw [harg1.read_unread, rowsRect_idx]

/-- A trip's load of the second input: its rows of the block. -/
theorem ld2_apply (k : Fin k0_t1_loop.trips) (a : Fin 32) (j : Fin 2560) :
    ld2 arg2 (harg2.unread x1) k (ix2 a j) = x1 (ix2 (tripRow k a) j) := by
  show arg2.view.read (Elt Ideal) (harg2.unread x1) ((rowsRect k).emb (ix2 a j)) = _
  rw [harg2.read_unread, rowsRect_idx]

/-- The load of the gains: the block. -/
theorem gain_eq :
    arg3.view.readAt (Elt Ideal) (Rect.unit (s := S1x2560) ![0, 0] S1x2560.size inb_S1x2560_S1x2560_0_0).toLoadRect (harg3.unread x2)
      = x2 := by
  funext y
  show arg3.view.read (Elt Ideal) (harg3.unread x2) _ = _
  rw [harg3.read_unread]
  congr 1
  funext a
  apply Fin.ext
  fin_cases a
  · show 0 + 1 * (y 0).val = (y 0).val
    omega
  · show 0 + 1 * (y 1).val = (y 1).val
    omega

/-- A store of 32 rows of scales into the scratch, agreeing with the block function. -/
theorem piece7_ok (k : Fin k0_t1_loop.trips) (s : Vec Ideal S32x1 .f32)
    (hs : ∀ a : Fin 32, s (ix2 a 0) = scale (rowOf x0 x1 x2 (tripRow k a))) (x : S32x128.Idx) :
    k0_pay8 (F := Ideal) s x = G7 x0 x1 x2 ((Rect.unit (s := S512x128) (k0_off2 k) S32x128.size (k0_off2_inb k)).emb x) := by
  obtain ⟨a, b, rfl⟩ : ∃ (a : Fin 32) (b : Fin 128), x = (ix2 a b : S32x128.Idx) := ⟨x 0, x 1, eq_ix2 x⟩
  rw [pay8_apply, scrRect_idx, hs]
  rfl

/-- Every piece of the loop agrees with the block functions. -/
theorem pieces_ok :
    (∀ p ∈ (loopPieces c i arg1 harg1 arg2 harg2 arg3 harg3 arg4 harg4 arg5 harg5 arg6 harg6 arg7 harg7 x0 x1 x2).1,
      ∀ x, p.2 x = G3 x0 x1 (p.1.emb x))
    ∧ (∀ p ∈ (loopPieces c i arg1 harg1 arg2 harg2 arg3 harg3 arg4 harg4 arg5 harg5 arg6 harg6 arg7 harg7 x0 x1 x2).2.1,
      ∀ x, p.2 x = G4 x0 x1 x2 (p.1.emb x))
    ∧ (∀ p ∈ (loopPieces c i arg1 harg1 arg2 harg2 arg3 harg3 arg4 harg4 arg5 harg5 arg6 harg6 arg7 harg7 x0 x1 x2).2.2,
      ∀ x, p.2 x = G7 x0 x1 x2 (p.1.emb x)) := by
  refine pieces_of_trips c i arg1 harg1 arg2 harg2 arg3 harg3 arg4 harg4 arg5 harg5 arg6 harg6 arg7 harg7 Variants.none none _ _ _
    (fun p => ∀ x, p.2 x = G3 x0 x1 (p.1.emb x)) (fun p => ∀ x, p.2 x = G4 x0 x1 x2 (p.1.emb x)) (fun p => ∀ x, p.2 x = G7 x0 x1 x2 (p.1.emb x))
    (fun k => ⟨?_, ?_, ?_⟩) _ (le_refl _)
  · intro x
    obtain ⟨a, b, rfl⟩ : ∃ (a : Fin 32) (b : Fin 2560), x = (ix2 a b : S32x2560.Idx) := ⟨x 0, x 1, eq_ix2 x⟩
    show k0_pay1 (F := Ideal) _ _ (ix2 a b) = G3 x0 x1 ((rowsRect k).emb (ix2 a b))
    rw [pay1_apply, rowsRect_idx, ld1_apply, ld2_apply]
    rfl
  · intro x
    obtain ⟨a, b, rfl⟩ : ∃ (a : Fin 32) (b : Fin 2560), x = (ix2 a b : S32x2560.Idx) := ⟨x 0, x 1, eq_ix2 x⟩
    show k0_pay7 (F := Ideal) _ _ (ix2 a b) = G4 x0 x1 x2 ((rowsRect k).emb (ix2 a b))
    rw [gain_eq, pay7_apply, rowsRect_idx]
    simp only [ld1_apply, ld2_apply]
    rfl
  · dsimp only
    rw [gain_eq]
    refine piece7_ok x0 x1 x2 k (k0_pay3 (k0_pay6 x2) (ld1 arg1 (harg1.unread x0) k) (ld2 arg2 (harg2.unread x1) k)) fun a => ?_
    rw [pay3_apply]
    simp only [ld1_apply, ld2_apply]
    rfl

/-- The block of new residuals a point leaves. -/
theorem out3_eq :
    out0_A_3 (F := Ideal) c i arg1 harg1 arg2 harg2 arg3 harg3 arg4 harg4 arg5 harg5 arg6 harg6 arg7 harg7 x0 x1 x2 = G3 x0 x1 := by
  funext y
  unfold out0_A_3
  rw [View.read_writes_junk_apply_eq_canon]
  refine View.canon_apply_of_pieces (G3 x0 x1) _ ?_ y (cover0_A_3 c i arg1 harg1 arg2 harg2 arg3 harg3 arg4 harg4 arg5 harg5 arg6 harg6 arg7 harg7 x0 x1 x2 y)
  rw [run_L3]
  exact (pieces_ok c i arg1 harg1 arg2 harg2 arg3 harg3 arg4 harg4 arg5 harg5 arg6 harg6 arg7 harg7 x0 x1 x2).1

/-- The block of codes a point leaves. -/
theorem out4_eq :
    out0_A_4 (F := Ideal) c i arg1 harg1 arg2 harg2 arg3 harg3 arg4 harg4 arg5 harg5 arg6 harg6 arg7 harg7 x0 x1 x2 = G4 x0 x1 x2 := by
  funext y
  unfold out0_A_4
  rw [View.read_writes_junk_apply_eq_canon]
  refine View.canon_apply_of_pieces (G4 x0 x1 x2) _ ?_ y (cover0_A_4 c i arg1 harg1 arg2 harg2 arg3 harg3 arg4 harg4 arg5 harg5 arg6 harg6 arg7 harg7 x0 x1 x2 y)
  rw [run_L4]
  exact (pieces_ok c i arg1 harg1 arg2 harg2 arg3 harg3 arg4 harg4 arg5 harg5 arg6 harg6 arg7 harg7 x0 x1 x2).2.1

/-- The loop's scratch pieces cover the scratch. -/
theorem scr_cover (y : S512x128.Idx) :
    ∃ pc ∈ (loopPieces c i arg1 harg1 arg2 harg2 arg3 harg3 arg4 harg4 arg5 harg5 arg6 harg6 arg7 harg7 x0 x1 x2).2.2, y ∈ pc.1.set :=
  View.cover_of_tiledL (loopPieces c i arg1 harg1 arg2 harg2 arg3 harg3 arg4 harg4 arg5 harg5 arg6 harg6 arg7 harg7 x0 x1 x2).2.2
    S32x128.size (by sl_kernel_rfl) y

/-- The scratch, loaded after the loop: at row `l` of the 128 from `o`, the scale of row `o + l`. -/
theorem scr_apply (o : ℕ) (inb : ∀ d, ![o, 0] d + S128x128.size d ≤ S512x128.size d) (l : Fin 128) (h : o + l.val < 512) :
    scr (F := Ideal) c i arg1 harg1 arg2 harg2 arg3 harg3 arg4 harg4 arg5 harg5 arg6 harg6 arg7 harg7 x0 x1 x2 o inb (ix2 l 0)
      = scale (rowOf x0 x1 x2 ⟨o + l.val, h⟩) := by
  unfold scr
  rw [View.readCov_eq_canon']
  show View.canon _ _ = _
  rw [View.canon_apply_of_pieces (G7 x0 x1 x2) _
    (pieces_ok c i arg1 harg1 arg2 harg2 arg3 harg3 arg4 harg4 arg5 harg5 arg6 harg6 arg7 harg7 x0 x1 x2).2.2 _
    (scr_cover c i arg1 harg1 arg2 harg2 arg3 harg3 arg4 harg4 arg5 harg5 arg6 harg6 arg7 harg7 x0 x1 x2 _)]
  unfold G7
  congr 2
  apply Fin.ext
  show o + 1 * l.val = o + l.val
  omega

/-- A store of 128 scales from row `o`, agreeing with the block function. -/
theorem piece5_ok (o : ℕ) (inb : ∀ d, ![0, 0, o] d + S1x1x128.size d ≤ S1x1x512.size d) (ho : o ≤ 384) (q : Vec Ideal S1x1x128 .f32)
    (hq : ∀ l : Fin 128, q (ix3 0 0 l) = scale (rowOf x0 x1 x2 ⟨o + l.val, by omega⟩)) (x : S1x1x128.Idx) :
    q x = G5 x0 x1 x2 ((Rect.unit (s := S1x1x512) ![0, 0, o] S1x1x128.size inb).emb x) := by
  obtain ⟨l, rfl⟩ : ∃ l : Fin 128, x = (ix3 0 0 l : S1x1x128.Idx) := ⟨x 2, by
    funext a
    fin_cases a
    · exact Subsingleton.elim (α := Fin 1) _ _
    · exact Subsingleton.elim (α := Fin 1) _ _
    · rfl⟩
  rw [hq]
  unfold G5
  congr 2
  apply Fin.ext
  show o + l.val = o + 1 * l.val
  omega

/-- The block of scales a point leaves. -/
theorem out5_eq :
    out0_A_5 (F := Ideal) c i arg1 harg1 arg2 harg2 arg3 harg3 arg4 harg4 arg5 harg5 arg6 harg6 arg7 harg7 x0 x1 x2 = G5 x0 x1 x2 := by
  funext y
  unfold out0_A_5
  rw [View.read_writes_junk_apply_eq_canon]
  refine View.canon_apply_of_pieces (G5 x0 x1 x2) _ ?_ y (cover0_A_5 c i arg1 harg1 arg2 harg2 arg3 harg3 arg4 harg4 arg5 harg5 arg6 harg6 arg7 harg7 x0 x1 x2 y)
  rw [run_L5]
  intro p hp
  simp only [List.mem_cons, List.not_mem_nil, or_false] at hp
  rcases hp with rfl | rfl | rfl | rfl
  · exact piece5_ok x0 x1 x2 384 inb_S1x1x512_S1x1x128_0_0_384 (by omega) _ fun l => (pay12_apply _ l).trans (scr_apply c i arg1 harg1 arg2 harg2 arg3 harg3 arg4 harg4 arg5 harg5 arg6 harg6 arg7 harg7 x0 x1 x2 384 inb_S512x128_S128x128_384_0 l _)
  · exact piece5_ok x0 x1 x2 256 inb_S1x1x512_S1x1x128_0_0_256 (by omega) _ fun l => (pay11_apply _ l).trans (scr_apply c i arg1 harg1 arg2 harg2 arg3 harg3 arg4 harg4 arg5 harg5 arg6 harg6 arg7 harg7 x0 x1 x2 256 inb_S512x128_S128x128_256_0 l _)
  · exact piece5_ok x0 x1 x2 128 inb_S1x1x512_S1x1x128_0_0_128 (by omega) _ fun l => (pay10_apply _ l).trans (scr_apply c i arg1 harg1 arg2 harg2 arg3 harg3 arg4 harg4 arg5 harg5 arg6 harg6 arg7 harg7 x0 x1 x2 128 inb_S512x128_S128x128_128_0 l _)
  · exact piece5_ok x0 x1 x2 0 inb_S1x1x512_S1x1x128_0_0_0 (by omega) _ fun l => (pay9_apply _ l).trans (scr_apply c i arg1 harg1 arg2 harg2 arg3 harg3 arg4 harg4 arg5 harg5 arg6 harg6 arg7 harg7 x0 x1 x2 0 inb_S512x128_S128x128_0_0 l _)

end Run

end Cert.KernelIdeal.Hand
-- ==== Proof.Arrays.lean ====
/- What the three result arrays hold after the last grid point: point `t` takes rows `512 t … 512 t + 511` of the 32768
   rows, row `1024 a + b` being row (a, b) of the arguments. -/
module

public import proofs.«01_k».proof.Proof.Block
public import Idealize.ShloMosaic.Lib.Pipeline.ValueKit
public import Idealize.ShloMosaic.Lib.Claim
public import Idealize.ShloMosaic.Lib.StableHlo.ReadAt

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.RowMath

/-- Where row `r` of the flattened rows lies: its first coordinate. -/
def rowA (r : Fin 32768) : Fin 32 := ⟨r.val / 1024, by omega⟩

/-- Its second coordinate. -/
def rowB (r : Fin 32768) : Fin 1024 := ⟨r.val % 1024, by omega⟩

section Functions
variable (X R : Vec Ideal S32x1024x2560 .bf16) (g : Vec Ideal S2560 .bf16)

/-- Row (a, b) of the arguments, normalised. -/
def rowAt (a : Fin 32) (b : Fin 1024) : Fin 2560 → EReal :=
  normed (fun k => X (ix3 a b k) + R (ix3 a b k)) (fun k => g (ix1 k))

/-- The array of new residuals, its rows flattened. -/
def A3 : Vec Ideal S32768x2560 .bf16 := fun y =>
  (X (ix3 (rowA (y 0)) (rowB (y 0)) (y 1)) + R (ix3 (rowA (y 0)) (rowB (y 0)) (y 1)) : EReal)

/-- The array of codes, its rows flattened. -/
def A4 : Vec Ideal S32768x2560 .i8 := fun y => code (rowAt X R g (rowA (y 0)) (rowB (y 0))) (y 1)

/-- The array of scales, laid along the last axis. -/
def A5 : Vec Ideal S32x1x1024 .f32 := fun y => scale (rowAt X R g (y 0) (y 2))

end Functions

/-- Every window's block index at point `t`. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val / 2, 0, t.val % 2] :=
  (by decide +kernel : ∀ t : Fin grid0.N, _)

variable (m : (ℓ : Loc nD τ sig) → Buf (Elt Ideal) ℓ) (c : Dev nD)

/-- The first argument as launched. -/
abbrev argX : Vec Ideal S32x1024x2560 .bf16 := m ((c : Thread nD τ).loc main_arg0)
/-- The second argument as launched. -/
abbrev argR : Vec Ideal S32x1024x2560 .bf16 := m ((c : Thread nD τ).loc main_arg1)
/-- The third argument as launched. -/
abbrev argG : Vec Ideal S2560 .bf16 := m ((c : Thread nD τ).loc main_arg2)

/-- The flattened first argument. -/
theorem V0_apply (r : Fin 32768) (j : Fin 2560) :
    V m c main_v0 (ix2 r j : S32768x2560.Idx) = argX m c (ix3 (rowA r) (rowB r) j) := by
  unfold V
  after_reads_at
  rfl

/-- The flattened second argument. -/
theorem V1_apply (r : Fin 32768) (j : Fin 2560) :
    V m c main_v1 (ix2 r j : S32768x2560.Idx) = argR m c (ix3 (rowA r) (rowB r) j) := by
  unfold V
  after_reads_at
  rfl

/-- The gains as a row. -/
theorem V2_apply (j : Fin 2560) : V m c main_v2 (ix2 0 j : S1x2560.Idx) = argG m c (ix1 j) := by
  unfold V
  after_reads_at

/-- Row `i` of point `t`'s blocks among the flattened rows. -/
def ptRow (t : Fin cfg0.N) (i : Fin 512) : Fin 32768 :=
  ⟨512 * t.val + i.val, by have := lt_of_lt_of_eq t.isLt N_0; omega⟩

/-- The first input's block at point `t`: its rows of the first argument. -/
theorem iblk0_apply (t : Fin cfg0.N) (i : Fin 512) (j : Fin 2560) :
    (iblk m c 0 t : Vec Ideal S512x2560 .bf16) (ix2 i j) = argX m c (ix3 (rowA (ptRow t i)) (rowB (ptRow t i)) j) := by
  rw [← V0_apply]
  blk_simp [iblk]
  congr 1
  blk_ext [(idx t).1]
  show t.val * 512 + i.val = 512 * t.val + i.val
  omega

/-- The second input's block at point `t`: its rows of the second argument. -/
theorem iblk1_apply (t : Fin cfg0.N) (i : Fin 512) (j : Fin 2560) :
    (iblk m c 1 t : Vec Ideal S512x2560 .bf16) (ix2 i j) = argR m c (ix3 (rowA (ptRow t i)) (rowB (ptRow t i)) j) := by
  rw [← V1_apply]
  blk_simp [iblk]
  congr 1
  blk_ext [(idx t).2.1]
  show t.val * 512 + i.val = 512 * t.val + i.val
  omega

/-- The third input's block at any point: the gains. -/
theorem iblk2_apply (t : Fin cfg0.N) (j : Fin 2560) :
    (iblk m c 2 t : Vec Ideal S1x2560 .bf16) (ix2 0 j) = argG m c (ix1 j) := by
  rw [← V2_apply]
  blk_simp [iblk]
  congr 1
  blk_ext [(idx t).2.2.1]

/-- So a point's row, normalised, is the row of the arguments. -/
theorem rowOf_eq (t : Fin cfg0.N) (i : Fin 512) :
    rowOf (iblk m c 0 t) (iblk m c 1 t) (iblk m c 2 t) i
      = rowAt (argX m c) (argR m c) (argG m c) (rowA (ptRow t i)) (rowB (ptRow t i)) := by
  unfold rowOf rowAt
  simp only [iblk0_apply, iblk1_apply, iblk2_apply]

/-- The array of new residuals after the run. -/
theorem final3 : (dats m 0 c).arrAt 3 cfg0.N = A3 (argX m c) (argR m c) := by
  refine (dats m 0 c).arrAt_eq_of_covers 3 _ (by decide +kernel) fun t hf y => ?_
  blk_simp
  rw [after0_3]
  unfold outsAt0
  dsimp only
  rw [out3_eq]
  obtain ⟨i, j, rfl⟩ : ∃ (i : Fin 512) (j : Fin 2560), y = (ix2 i j : S512x2560.Idx) := ⟨y 0, y 1, eq_ix2 y⟩
  have e : (((cfg0.win 3).blk t).view.emb (ix2 i j : S512x2560.Idx) : S32768x2560.Idx) = ix2 (ptRow t i) j := by
    blk_ext [(idx t).2.2.2.1]
    show t.val * 512 + i.val = 512 * t.val + i.val
    omega
  refine Eq.trans ?_ (congrArg (A3 (argX m c) (argR m c)) e).symm
  unfold G3 A3
  rw [iblk0_apply, iblk1_apply]
  rfl

/-- The array of codes after the run. -/
theorem final4 : (dats m 0 c).arrAt 4 cfg0.N = A4 (argX m c) (argR m c) (argG m c) := by
  refine (dats m 0 c).arrAt_eq_of_covers 4 _ (by decide +kernel) fun t hf y => ?_
  blk_simp
  rw [after0_4]
  unfold outsAt0
  dsimp only
  rw [out4_eq]
  obtain ⟨i, j, rfl⟩ : ∃ (i : Fin 512) (j : Fin 2560), y = (ix2 i j : S512x2560.Idx) := ⟨y 0, y 1, eq_ix2 y⟩
  have e : (((cfg0.win 4).blk t).view.emb (ix2 i j : S512x2560.Idx) : S32768x2560.Idx) = ix2 (ptRow t i) j := by
    blk_ext [(idx t).2.2.2.2.1]
    show t.val * 512 + i.val = 512 * t.val + i.val
    omega
  refine Eq.trans ?_ (congrArg (A4 (argX m c) (argR m c) (argG m c)) e).symm
  show code (rowOf (iblk m c 0 t) (iblk m c 1 t) (iblk m c 2 t) i) j = _
  rw [rowOf_eq]
  rfl

/-- The array of scales after the run. -/
theorem final5 : (dats m 0 c).arrAt 5 cfg0.N = A5 (argX m c) (argR m c) (argG m c) := by
  refine (dats m 0 c).arrAt_eq_of_covers 5 _ (by decide +kernel) fun t hf y => ?_
  blk_simp
  rw [after0_5]
  unfold outsAt0
  dsimp only
  rw [out5_eq]
  obtain ⟨l, rfl⟩ : ∃ l : Fin 512, y = (ix3 0 0 l : S1x1x512.Idx) := ⟨y 2, by
    funext a
    fin_cases a
    · exact Subsingleton.elim (α := Fin 1) _ _
    · exact Subsingleton.elim (α := Fin 1) _ _
    · rfl⟩
  have ht := lt_of_lt_of_eq t.isLt N_0
  have e : (((cfg0.win 5).blk t).view.emb (ix3 0 0 l : S1x1x512.Idx) : S32x1x1024.Idx) = ix3 (rowA (ptRow t l)) 0 (rowB (ptRow t l)) := by
    blk_ext [(idx t).2.2.2.2.2]
    · show t.val / 2 = (512 * t.val + l.val) / 1024
      omega
    · show t.val % 2 * 512 + l.val = (512 * t.val + l.val) % 1024
      omega
  refine Eq.trans ?_ (congrArg (A5 (argX m c) (argR m c) (argG m c)) e).symm
  show scale (rowOf (iblk m c 0 t) (iblk m c 1 t) (iblk m c 2 t) l) = _
  rw [rowOf_eq]
  rfl

end Cert.KernelIdeal.Hand
-- ==== Proof.Tail.lean ====
/- The run of the kernel's whole call: the three results, each an array of the pipeline reshaped, at an index. -/
module

public import proofs.«01_k».proof.Proof.Arrays

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.RowMath

/-- Row (a, b) among the flattened rows. -/
def flatRow (a : Fin 32) (b : Fin 1024) : Fin 32768 := ⟨a.val * 1024 + b.val, by omega⟩

/-- Its first coordinate is `a`. -/
theorem rowA_flatRow (a : Fin 32) (b : Fin 1024) : rowA (flatRow a b) = a :=
  Fin.ext (by show (a.val * 1024 + b.val) / 1024 = a.val; omega)

/-- Its second coordinate is `b`. -/
theorem rowB_flatRow (a : Fin 32) (b : Fin 1024) : rowB (flatRow a b) = b :=
  Fin.ext (by show (a.val * 1024 + b.val) % 1024 = b.val; omega)

section Results
variable (X R : Vec Ideal S32x1024x2560 .bf16) (g : Vec Ideal S2560 .bf16)

/-- The first result: the sum of the two inputs. -/
def resNew : Vec Ideal S32x1024x2560 .bf16 := fun y => (X y + R y : EReal)

/-- The second result: the codes. -/
def resCode : Vec Ideal S32x1024x2560 .i8 := fun y => code (rowAt X R g (y 0) (y 1)) (y 2)

/-- The third result: one scale a row. -/
def resScale : Vec Ideal S32x1024x1 .f32 := fun y => scale (rowAt X R g (y 0) (y 1))

end Results

variable (m : (ℓ : Loc nD τ sig) → Buf (Elt Ideal) ℓ) (ρ : Dev nD → PrngReg) (c : Dev nD)

/-- The pipeline's arrays are different buffers. -/
theorem arrRef_inj : Function.Injective (Pipeline.arrRef spec0) := by decide

/-- An array of the pipeline, among the buffers as the pipeline leaves them. -/
theorem left_at (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 arrRef_inj c (V0 m c) (fun w => (dats m 0 c).arrAt w cfg0.N) w

/-- The first result buffer after the call. -/
theorem W_v4 : Pipeline.afterTail₀ cfgs (dats m) 0 (V0 m) [hostOps1] c main_v4 = resNew (argX m c) (argR m c) := by
  unfold Pipeline.afterTail₀
  funext y
  obtain ⟨a, b, j, rfl⟩ : ∃ (a : Fin 32) (b : Fin 1024) (j : Fin 2560), y = (ix3 a b j : S32x1024x2560.Idx) :=
    ⟨y 0, y 1, y 2, eq_ix3 y⟩
  after_reads_at
  refine (congrFun ((left_at m c 3).trans (final3 m c)) (ix2 (flatRow a b) j : S32768x2560.Idx)).trans ?_
  show argX m c (ix3 (rowA (flatRow a b)) (rowB (flatRow a b)) j) + argR m c (ix3 (rowA (flatRow a b)) (rowB (flatRow a b)) j) = _
  rw [rowA_flatRow, rowB_flatRow]
  rfl

/-- The second result buffer after the call. -/
theorem W_v5 : Pipeline.afterTail₀ cfgs (dats m) 0 (V0 m) [hostOps1] c main_v5 = resCode (argX m c) (argR m c) (argG m c) := by
  unfold Pipeline.afterTail₀
  funext y
  obtain ⟨a, b, j, rfl⟩ : ∃ (a : Fin 32) (b : Fin 1024) (j : Fin 2560), y = (ix3 a b j : S32x1024x2560.Idx) :=
    ⟨y 0, y 1, y 2, eq_ix3 y⟩
  after_reads_at
  refine (congrFun ((left_at m c 4).trans (final4 m c)) (ix2 (flatRow a b) j : S32768x2560.Idx)).trans ?_
  show code (rowAt _ _ _ (rowA (flatRow a b)) (rowB (flatRow a b))) j = _
  rw [rowA_flatRow, rowB_flatRow]
  rfl

/-- The third result buffer after the call. -/
theorem W_v6 : Pipeline.afterTail₀ cfgs (dats m) 0 (V0 m) [hostOps1] c main_v6 = resScale (argX m c) (argR m c) (argG m c) := by
  unfold Pipeline.afterTail₀
  funext y
  obtain ⟨a, b, rfl⟩ : ∃ (a : Fin 32) (b : Fin 1024), y = (ix3 a b 0 : S32x1024x1.Idx) := ⟨y 0, y 1, by
    funext d
    fin_cases d
    · rfl
    · rfl
    · exact Subsingleton.elim (α := Fin 1) _ _⟩
  after_reads_at
  exact congrFun ((left_at m c 5).trans (final5 m c)) (ix3 a 0 b : S32x1x1024.Idx)

/-- The call runs, leaving the three results as functions of the arguments, and the arguments unchanged. -/
theorem run : θ_run defs (onTc (τ := τ) (main (F := Ideal))) ⟨m, fun _ => 0, ρ⟩ (fun r => ∀ c : Dev nD,
      r.2.mem ((c.tc : Thread nD τ).loc main_v4) = resNew (argX m c) (argR m c)
      ∧ r.2.mem ((c.tc : Thread nD τ).loc main_v5) = resCode (argX m c) (argR m c) (argG m c)
      ∧ r.2.mem ((c.tc : Thread nD τ).loc main_v6) = resScale (argX m c) (argR m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (W_v4 m c),
     ((h c).2 main_v5 (Pipeline.mem_restRefs_of main_v5 (by decide) (by decide))).trans (W_v5 m c),
     ((h c).2 main_v6 (Pipeline.mem_restRefs_of main_v6 (by decide) (by decide))).trans (W_v6 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Hand
-- ==== Proof.RefRow.lean ====
/- What the reference computes, read at an index: its three results, each as the mathematics of one row (RowMath). -/
module

public import proofs.«01_k».proof.Proof.Gen.ReferenceIdeal.Run
public import proofs.«01_k».proof.Proof.RowMath
public import Idealize.ShloMosaic.Lib.KernelVsHost

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Value Cert.RowMath

variable (a : Fin 32) (b : Fin 1024) (j : Fin 2560)

/-- The reference's first result: the new residual. -/
def refNew (x r : FVec Ideal S32x1024x2560 .bf16) : FVec Ideal S32x1024x2560 .bf16 :=
  truncf .bf16 (addf (extf .f32 x bitsLt_bf16_f32) (extf .f32 r bitsLt_bf16_f32)) bitsLt_bf16_f32

/-- The reference's normalised activations. -/
def refY (n : FVec Ideal S32x1024x2560 .bf16) (g : FVec Ideal S2560 .bf16) : FVec Ideal S32x1024x2560 .f32 :=
  mulf (mulf (extf .f32 n bitsLt_bf16_f32) (broadcastInDim S32x1024x2560 ![0, 1, 2] bcast_S32x1024x1_S32x1024x2560_0_1_2 (Host.rsqrt (addf (Host.divf (broadcastInDim S32x1024x1 ![0, 1] bcast_S32x1024_S32x1024x1_0_1 (Host.reduceAdd (mulf (extf .f32 n bitsLt_bf16_f32) (extf .f32 n bitsLt_bf16_f32)) (constant S_ .f32 0x00000000#32) reducesTo_S32x1024x2560_S32x1024_d2 h_S_)) (broadcastInDim S32x1024x1 ![] bcast_S_S32x1024x1 (constant S_ .f32 0x45200000#32))) (broadcastInDim S32x1024x1 ![] bcast_S_S32x1024x1 (constant S_ .f32 0x358637BD#32)))))) (broadcastInDim S32x1024x2560 ![0, 1, 2] bcast_S1x1x2560_S32x1024x2560_0_1_2 (broadcastInDim S1x1x2560 ![2] bcast_S2560_S1x1x2560_2 (extf .f32 g bitsLt_bf16_f32)))

/-- The reference's largest magnitude of each row. -/
def refMax (y : FVec Ideal S32x1024x2560 .f32) : FVec Ideal S32x1024 .f32 :=
  Host.reduce FloatOps.maximumf (Host.absf y) (constant S_ .f32 0xFF800000#32) reducesTo_S32x1024x2560_S32x1024_d2 h_S_

/-- The reference's scale of each row, from the row's largest magnitude. -/
def refScale (p : FVec Ideal S32x1024 .f32) : FVec Ideal S32x1024x1 .f32 :=
  select (cmpf .ogt (broadcastInDim S32x1024x1 ![0, 1] bcast_S32x1024_S32x1024x1_0_1 p) (broadcastInDim S32x1024x1 ![] bcast_S_S32x1024x1 (constant S_ .f32 0x00000000#32))) (Host.divf (broadcastInDim S32x1024x1 ![0, 1] bcast_S32x1024_S32x1024x1_0_1 p) (broadcastInDim S32x1024x1 ![] bcast_S_S32x1024x1 (constant S_ .f32 0x42FE0000#32))) (broadcastInDim S32x1024x1 ![] bcast_S_S32x1024x1 (id (constant S_ .f32 0x3F800000#32)))

/-- The reference's codes, from the normalised activations and the scales. -/
def refCode (y : FVec Ideal S32x1024x2560 .f32) (s : FVec Ideal S32x1024x1 .f32) : IVec S32x1024x2560 8 :=
  trunci 8 (fptosi 32 (minimumf (broadcastInDim S32x1024x2560 ![] bcast_S_S32x1024x2560 (id (constant S_ .f32 0x42FE0000#32))) (maximumf (broadcastInDim S32x1024x2560 ![] bcast_S_S32x1024x2560 (id (constant S_ .f32 0xC2FE0000#32))) (Host.roundeven (Host.divf y (broadcastInDim S32x1024x2560 ![0, 1, 2] bcast_S32x1024x1_S32x1024x2560_0_1_2 s)))))) natLt_8_32

/-- The codes the reference returns are `refCode` of its own normalised activations and scales. -/
theorem res_eq (m : (ℓ : Loc nD τ sig) → Buf (Elt Ideal) ℓ) (c : Dev nD) : res_main_v33_0 (F := Ideal) m c =
   refCode (refY (refNew (m ((c.tc : Thread nD τ).loc main_arg0)) (m ((c.tc : Thread nD τ).loc main_arg1))) (m ((c.tc : Thread nD τ).loc main_arg2)))
     (refScale (refMax (refY (refNew (m ((c.tc : Thread nD τ).loc main_arg0)) (m ((c.tc : Thread nD τ).loc main_arg1))) (m ((c.tc : Thread nD τ).loc main_arg2))))) := rfl

/-- The new residual at an index: the sum of the two inputs. -/
theorem refNew_apply (x r : FVec Ideal S32x1024x2560 .bf16) : refNew x r (ix3 a b j) = x (ix3 a b j) + r (ix3 a b j) := by
  pointwise [refNew]

/-- The normalised activations at an index: `normed` of the row and the gains. -/
theorem refY_apply (n : FVec Ideal S32x1024x2560 .bf16) (g : FVec Ideal S2560 .bf16) :
    refY n g (ix3 a b j) = normed (fun k => n (ix3 a b k)) (fun k => g (ix1 k)) j := by
  pointwise [refY]
  rw [div_2560]
  rfl

/-- The last axis is the one reduced. -/
theorem reduces : S32x1024x2560.Reduces [2] S32x1024 := by decide

/-- The largest magnitude at a row: `peak` of the row. -/
theorem refMax_apply (y : FVec Ideal S32x1024x2560 .f32) : refMax y (ix2 a b) = peak fun k => y (ix3 a b k) := by
  unfold refMax
  refine (congrFun (hostReduce_maximumf_eq_multiReduction (Host.absf y) 0xFF800000#32 _ _ reduces (.inl rfl) rfl) _).trans ?_
  refine (Ideal.multiReduction_maximumf_single _ _ _ _ _ _).trans ?_
  refine congrArg (fun f => Finset.fold max _ f Finset.univ) (funext fun k => ?_)
  show FloatOps.absf (y (reduces.lift (ix2 a b) k)) = _
  refine congrArg (fun i => FloatOps.absf (y i)) ?_
  funext d; apply Fin.ext
  exact match d with | ⟨0, _⟩ => rfl | ⟨1, _⟩ => rfl | ⟨2, _⟩ => rfl

/-- The scale at a row, from the row's largest magnitude. -/
theorem refScale_apply (p : FVec Ideal S32x1024 .f32) :
    refScale p (ix3 a b 0) = if 0 < p (ix2 a b) then Ideal.div (p (ix2 a b)) (Ideal.ofBits .f32 0x42FE0000#32) else 1 := by
  pointwise [refScale, id]

/-- The codes at an index. -/
theorem refCode_apply (y : FVec Ideal S32x1024x2560 .f32) (s : FVec Ideal S32x1024x1 .f32) :
    refCode y s (ix3 a b j) = Ideal.fptosi 8 (clipped (Ideal.div (y (ix3 a b j)) (s (ix3 a b 0)))) := by
  pointwise [refCode, id]
  exact setWidth_fptosi _

end Cert.ReferenceIdeal.Hand
-- ==== Proof.Equation.lean ====
/- The equation between the two programs: the reference's three results are the kernel's three result functions of the
   same arguments. -/
module

public import proofs.«01_k».proof.Proof.Tail
public import proofs.«01_k».proof.Proof.RefRow

@[expose] public section

set_option maxRecDepth 16384

noncomputable section

namespace Cert.Equation

open Idealize.ShloMosaic Idealize.ShloMosaic.TcCoe Idealize.SL.Sem
open Cert.RowMath Cert.ReferenceIdeal.Hand Cert.KernelIdeal.Hand

variable (x r : FVec Ideal Cert.KernelIdeal.S32x1024x2560 .bf16) (g : FVec Ideal Cert.KernelIdeal.S2560 .bf16)

/-- The new residuals agree. -/
theorem new_eq : refNew x r = resNew x r := by
  funext y
  obtain ⟨a, b, j, rfl⟩ : ∃ (a : Fin 32) (b : Fin 1024) (j : Fin 2560), y = (ix3 a b j : Cert.KernelIdeal.S32x1024x2560.Idx) :=
    ⟨y 0, y 1, y 2, eq_ix3 y⟩
  exact refNew_apply a b j x r

/-- The reference's normalised row is the kernel's. -/
theorem row_eq (a : Fin 32) (b : Fin 1024) : (fun k : Fin 2560 => refY (refNew x r) g (ix3 a b k)) = rowAt x r g a b := by
  funext j
  rw [refY_apply]
  simp only [refNew_apply]
  rfl

/-- The reference's scale at a row is `scale` of the normalised row. -/
theorem scale_at (a : Fin 32) (b : Fin 1024) :
    refScale (refMax (refY (refNew x r) g)) (ix3 a b 0) = scale (rowAt x r g a b) := by
  rw [refScale_apply, refMax_apply, row_eq]
  rfl

/-- The scales agree. -/
theorem scale_eq : refScale (refMax (refY (refNew x r) g)) = resScale x r g := by
  funext y
  obtain ⟨a, b, rfl⟩ : ∃ (a : Fin 32) (b : Fin 1024), y = (ix3 a b 0 : Cert.KernelIdeal.S32x1024x1.Idx) := ⟨y 0, y 1, by
    funext d
    fin_cases d
    · rfl
    · rfl
    · exact Subsingleton.elim (α := Fin 1) _ _⟩
  exact scale_at x r g a b

/-- The codes agree at an index. -/
theorem code_at (a : Fin 32) (b : Fin 1024) (j : Fin 2560) :
    refCode (refY (refNew x r) g) (refScale (refMax (refY (refNew x r) g))) (ix3 a b j) = code (rowAt x r g a b) j := by
  rw [refCode_apply, scale_at, congrFun (row_eq x r g a b) j]
  rfl

/-- The codes agree. -/
theorem code_eq : refCode (refY (refNew x r) g) (refScale (refMax (refY (refNew x r) g))) = resCode x r g := by
  funext y
  obtain ⟨a, b, j, rfl⟩ : ∃ (a : Fin 32) (b : Fin 1024) (j : Fin 2560), y = (ix3 a b j : Cert.KernelIdeal.S32x1024x2560.Idx) :=
    ⟨y 0, y 1, y 2, eq_ix3 y⟩
  exact code_at x r g a b j

end Cert.Equation

/-! ## The reference's run -/

namespace Cert.ReferenceIdeal.Hand

open Idealize.ShloMosaic Idealize.ShloMosaic.TcCoe Idealize.SL.Sem
open Cert.ReferenceIdeal Cert.ReferenceIdeal.Gen Cert.KernelIdeal.Hand Cert.Equation

/-- The reference runs, leaving the same three functions of its arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = resNew (m ((c.tc : Thread nD τ).loc main_arg0)) (m ((c.tc : Thread nD τ).loc main_arg1))
      ∧ r.2.mem ((c.tc : Thread nD τ).loc main_v33_0) = resCode (m ((c.tc : Thread nD τ).loc main_arg0)) (m ((c.tc : Thread nD τ).loc main_arg1)) (m ((c.tc : Thread nD τ).loc main_arg2))
      ∧ r.2.mem ((c.tc : Thread nD τ).loc main_v33_1) = resScale (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans (new_eq _ _),
     (h c).2.1.trans ((res_eq m c).trans (code_eq _ _ _)),
     (h c).2.2.1.trans ((id_eq _).trans (scale_eq _ _ _)),
     (h c).2.2.2⟩)
    (Cert.ReferenceIdeal.Value.run m ρ)

end Cert.ReferenceIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal

public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: it runs, its arguments end unchanged and every counter ends at zero. -/
theorem reference_frame : Cert.quiescent_ReferenceIdeal (hReferenceIdeal := Cert.ReferenceIdeal.Gen.facts) := fun m ρ _ =>
  (θ_run _ _ _).mono (fun r h => ⟨fun c => (h c).2.2.2, sem_eq_zero_of_no_sems (by decide) r.2⟩) (Cert.ReferenceIdeal.Hand.run m ρ)

/-- The kernel's idealization and the reference leave equal results from equal arguments. -/
theorem equal : Cert.algebraic_KernelIdeal_ReferenceIdeal (hKernelIdeal := Cert.KernelIdeal.Gen.facts)
    (hReferenceIdeal := Cert.ReferenceIdeal.Gen.facts) := by
  intro m g m' g' _ hagree
  refine ⟨_, _, _, Cert.KernelIdeal.Hand.run m g, (θ_run _ _ _).mono (fun r h c => ?_) (Cert.ReferenceIdeal.Hand.run m' g')⟩
  obtain ⟨h0, h1, h2, hr⟩ := h c
  obtain ⟨e0, e1, e2⟩ := hagree c
  rw [e0, e1] at h0
  rw [e0, e1, e2] at h1 h2
  exact ⟨h0, h1, h2, hr⟩

/-- Every claim of the certificate. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  reference_frame,
  IdealRules.named_const.statement Cert.KernelIdeal.κ "inv_d" .f32 0x39CCCCCD#32 ((1 / 2560 : ℝ) : EReal) rfl,
  equal⟩

end Cert.Proof

end
